-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S56x512 Cert.KernelIdeal.S28x512
  ∧ IdealRules.bf16_pack.Statement Cert.KernelIdeal.S28x512
  ∧ IdealRules.bf16_pair.Statement Cert.KernelIdeal.S2x512 Cert.KernelIdeal.S1x512
  ∧ IdealRules.bf16_pair.Statement Cert.KernelIdeal.S16x512 Cert.KernelIdeal.S8x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x7168 : Shape := ⟨3, ![128, 1, 7168]⟩
abbrev S3584x4096 : Shape := ⟨2, ![3584, 4096]⟩
abbrev S56x4096 : Shape := ⟨2, ![56, 4096]⟩
abbrev S128x7168 : Shape := ⟨2, ![128, 7168]⟩
abbrev S128x4096 : Shape := ⟨2, ![128, 4096]⟩
abbrev S3584x512 : Shape := ⟨2, ![3584, 512]⟩
abbrev S56x512 : Shape := ⟨2, ![56, 512]⟩
abbrev S128x512 : Shape := ⟨2, ![128, 512]⟩
abbrev S128x128 : Shape := ⟨2, ![128, 128]⟩
abbrev S128x128x1 : Shape := ⟨3, ![128, 128, 1]⟩
abbrev S128x256 : Shape := ⟨2, ![128, 256]⟩
abbrev S28x512 : Shape := ⟨2, ![28, 512]⟩
abbrev S1x512 : Shape := ⟨2, ![1, 512]⟩
abbrev S2x512 : Shape := ⟨2, ![2, 512]⟩
abbrev S32x512 : Shape := ⟨2, ![32, 512]⟩
abbrev S32x8x512 : Shape := ⟨3, ![32, 8, 512]⟩
abbrev S32x1x512 : Shape := ⟨3, ![32, 1, 512]⟩
abbrev S256x512 : Shape := ⟨2, ![256, 512]⟩
abbrev S8x512 : Shape := ⟨2, ![8, 512]⟩
abbrev S16x512 : Shape := ⟨2, ![16, 512]⟩
abbrev S16x16x512 : Shape := ⟨3, ![16, 16, 512]⟩
abbrev S1x16x512 : Shape := ⟨3, ![1, 16, 512]⟩

abbrev nBuf : Space → Nat
  | .hbm => 7
  | .vmem => 14
  | .smem => 0
  | _ => 0

abbrev bufTy : (tb : Table) → Fin (tcTables nBuf tb) → BufTy
  | .hbm, ⟨0, _⟩ => ⟨S128x1x7168, .bf16⟩
  | .hbm, ⟨1, _⟩ => ⟨S3584x4096, .i8⟩
  | .hbm, ⟨2, _⟩ => ⟨S56x4096, .bf16⟩
  | .hbm, ⟨3, _⟩ => ⟨S3584x4096, .i8⟩
  | .hbm, ⟨4, _⟩ => ⟨S56x4096, .bf16⟩
  | .hbm, ⟨5, _⟩ => ⟨S128x7168, .bf16⟩
  | .hbm, ⟨6, _⟩ => ⟨S128x4096, .bf16⟩
  | .local _ .vmem, ⟨0, _⟩ => ⟨S128x7168, .bf16⟩
  | .local _ .vmem, ⟨1, _⟩ => ⟨S3584x512, .i8⟩
  | .local _ .vmem, ⟨2, _⟩ => ⟨S3584x512, .i8⟩
  | .local _ .vmem, ⟨3, _⟩ => ⟨S56x512, .bf16⟩
  | .local _ .vmem, ⟨4, _⟩ => ⟨S56x512, .bf16⟩
  | .local _ .vmem, ⟨5, _⟩ => ⟨S3584x512, .i8⟩
  | .local _ .vmem, ⟨6, _⟩ => ⟨S3584x512, .i8⟩
  | .local _ .vmem, ⟨7, _⟩ => ⟨S56x512, .bf16⟩
  | .local _ .vmem, ⟨8, _⟩ => ⟨S56x512, .bf16⟩
  | .local _ .vmem, ⟨9, _⟩ => ⟨S128x512, .bf16⟩
  | .local _ .vmem, ⟨10, _⟩ => ⟨S128x512, .bf16⟩
  | .local _ .vmem, ⟨11, _⟩ => ⟨S128x7168, .bf16⟩
  | .local _ .vmem, ⟨12, _⟩ => ⟨S56x512, .bf16⟩
  | .local _ .vmem, ⟨13, _⟩ => ⟨S56x512, .bf16⟩
  | _, _ => ⟨S128x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F]
-- ==== ReferenceIdeal.lean ====
abbrev S128x1x7168 : Shape := ⟨3, ![128, 1, 7168]⟩
abbrev S3584x4096 : Shape := ⟨2, ![3584, 4096]⟩
abbrev S56x4096 : Shape := ⟨2, ![56, 4096]⟩
abbrev S_ : Shape := ⟨0, ![]⟩
abbrev S28x4096 : Shape := ⟨2, ![28, 4096]⟩
abbrev S28x128x4096 : Shape := ⟨3, ![28, 128, 4096]⟩
abbrev S28x1x4096 : Shape := ⟨3, ![28, 1, 4096]⟩
abbrev S128x1x3584 : Shape := ⟨3, ![128, 1, 3584]⟩
abbrev S128x1x4096 : Shape := ⟨3, ![128, 1, 4096]⟩
abbrev S128x4096 : Shape := ⟨2, ![128, 4096]⟩

abbrev nBuf : Space → Nat
  | .hbm => 81
  | .vmem => 0
  | .smem => 0
  | _ => 0

abbrev bufTy : (tb : Table) → Fin (tcTables nBuf tb) → BufTy
  | .hbm, ⟨0, _⟩ => ⟨S128x1x7168, .bf16⟩
  | .hbm, ⟨1, _⟩ => ⟨S3584x4096, .i8⟩
  | .hbm, ⟨2, _⟩ => ⟨S56x4096, .bf16⟩
  | .hbm, ⟨3, _⟩ => ⟨S3584x4096, .i8⟩
  | .hbm, ⟨4, _⟩ => ⟨S56x4096, .bf16⟩
  | .hbm, ⟨5, _⟩ => ⟨S3584x4096, .i32⟩
  | .hbm, ⟨6, _⟩ => ⟨S_, .i32⟩
  | .hbm, ⟨7, _⟩ => ⟨S3584x4096, .i32⟩
  | .hbm, ⟨8, _⟩ => ⟨S3584x4096, .i32⟩
  | .hbm, ⟨9, _⟩ => ⟨S28x4096, .bf16⟩
  | .hbm, ⟨10, _⟩ => ⟨S3584x4096, .bf16⟩
  | .hbm, ⟨11, _⟩ => ⟨S_, .bf16⟩
  | .hbm, ⟨12, _⟩ => ⟨S3584x4096, .bf16⟩
  | .hbm, ⟨13, _⟩ => ⟨S3584x4096, .bf16⟩
  | .hbm, ⟨14, _⟩ => ⟨S28x128x4096, .bf16⟩
  | .hbm, ⟨15, _⟩ => ⟨S28x1x4096, .bf16⟩
  | .hbm, ⟨16, _⟩ => ⟨S28x128x4096, .bf16⟩
  | .hbm, ⟨17, _⟩ => ⟨S28x128x4096, .bf16⟩
  | .hbm, ⟨18, _⟩ => ⟨S3584x4096, .bf16⟩
  | .hbm, ⟨19, _⟩ => ⟨S_, .i32⟩
  | .hbm, ⟨20, _⟩ => ⟨S3584x4096, .i32⟩
  | .hbm, ⟨21, _⟩ => ⟨S3584x4096, .i32⟩
  | .hbm, ⟨22, _⟩ => ⟨S28x4096, .bf16⟩
  | .hbm, ⟨23, _⟩ => ⟨S3584x4096, .bf16⟩
  | .hbm, ⟨24, _⟩ => ⟨S_, .bf16⟩
  | .hbm, ⟨25, _⟩ => ⟨S3584x4096, .bf16⟩
  | .hbm, ⟨26, _⟩ => ⟨S3584x4096, .bf16⟩
  | .hbm, ⟨27, _⟩ => ⟨S28x128x4096, .bf16⟩
  | .hbm, ⟨28, _⟩ => ⟨S28x1x4096, .bf16⟩
  | .hbm, ⟨29, _⟩ => ⟨S28x128x4096, .bf16⟩
  | .hbm, ⟨30, _⟩ => ⟨S28x128x4096, .bf16⟩
  | .hbm, ⟨31, _⟩ => ⟨S3584x4096, .bf16⟩
  | .hbm, ⟨32, _⟩ => ⟨S128x1x3584, .bf16⟩
  | .hbm, ⟨33, _⟩ => ⟨S128x1x4096, .f32⟩
  | .hbm, ⟨34, _⟩ => ⟨S128x1x3584, .bf16⟩
  | .hbm, ⟨35, _⟩ => ⟨S128x1x4096, .f32⟩
  | .hbm, ⟨36, _⟩ => ⟨S128x1x4096, .f32⟩
  | .hbm, ⟨37, _⟩ => ⟨S3584x4096, .i32⟩
  | .hbm, ⟨38, _⟩ => ⟨S_, .i32⟩
  | .hbm, ⟨39, _⟩ => ⟨S3584x4096, .i32⟩
  | .hbm, ⟨40, _⟩ => ⟨S3584x4096, .i32⟩
  | .hbm, ⟨41, _⟩ => ⟨S28x4096, .bf16⟩
  | .hbm, ⟨42, _⟩ => ⟨S3584x4096, .bf16⟩
  | .hbm, ⟨43, _⟩ => ⟨S_, .bf16⟩
  | .hbm, ⟨44, _⟩ => ⟨S3584x4096, .bf16⟩
  | .hbm, ⟨45, _⟩ => ⟨S3584x4096, .bf16⟩
  | .hbm, ⟨46, _⟩ => ⟨S28x128x4096, .bf16⟩
  | .hbm, ⟨47, _⟩ => ⟨S28x1x4096, .bf16⟩
  | .hbm, ⟨48, _⟩ => ⟨S28x128x4096, .bf16⟩
  | .hbm, ⟨49, _⟩ => ⟨S28x128x4096, .bf16⟩
  | .hbm, ⟨50, _⟩ => ⟨S3584x4096, .bf16⟩
  | .hbm, ⟨51, _⟩ => ⟨S_, .i32⟩
  | .hbm, ⟨52, _⟩ => ⟨S3584x4096, .i32⟩
  | .hbm, ⟨53, _⟩ => ⟨S3584x4096, .i32⟩
  | .hbm, ⟨54, _⟩ => ⟨S28x4096, .bf16⟩
  | .hbm, ⟨55, _⟩ => ⟨S3584x4096, .bf16⟩
  | .hbm, ⟨56, _⟩ => ⟨S_, .bf16⟩
  | .hbm, ⟨57, _⟩ => ⟨S3584x4096, .bf16⟩
  | .hbm, ⟨58, _⟩ => ⟨S3584x4096, .bf16⟩
  | .hbm, ⟨59, _⟩ => ⟨S28x128x4096, .bf16⟩
  | .hbm, ⟨60, _⟩ => ⟨S28x1x4096, .bf16⟩
  | .hbm, ⟨61, _⟩ => ⟨S28x128x4096, .bf16⟩
  | .hbm, ⟨62, _⟩ => ⟨S28x128x4096, .bf16⟩
  | .hbm, ⟨63, _⟩ => ⟨S3584x4096, .bf16⟩
  | .hbm, ⟨64, _⟩ => ⟨S128x1x3584, .bf16⟩
  | .hbm, ⟨65, _⟩ => ⟨S128x1x4096, .f32⟩
  | .hbm, ⟨66, _⟩ => ⟨S128x1x3584, .bf16⟩
  | .hbm, ⟨67, _⟩ => ⟨S128x1x4096, .f32⟩
  | .hbm, ⟨68, _⟩ => ⟨S128x1x4096, .f32⟩
  | .hbm, ⟨69, _⟩ => ⟨S128x1x4096, .f32⟩
  | .hbm, ⟨70, _⟩ => ⟨S128x1x4096, .f32⟩
  | .hbm, ⟨71, _⟩ => ⟨S_, .f32⟩
  | .hbm, ⟨72, _⟩ => ⟨S128x1x4096, .f32⟩
  | .hbm, ⟨73, _⟩ => ⟨S128x1x4096, .f32⟩
  | .hbm, ⟨74, _⟩ => ⟨S_, .f32⟩
  | .hbm, ⟨75, _⟩ => ⟨S128x1x4096, .f32⟩
  | .hbm, ⟨76, _⟩ => ⟨S128x1x4096, .f32⟩
  | .hbm, ⟨77, _⟩ => ⟨S128x1x4096, .f32⟩
  | .hbm, ⟨78, _⟩ => ⟨S128x1x4096, .f32⟩
  | .hbm, ⟨79, _⟩ => ⟨S128x1x4096, .bf16⟩
  | .hbm, ⟨80, _⟩ => ⟨S128x4096, .bf16⟩
  | _, _ => ⟨S128x1x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Proof.Body.lean ====
/- What one grid point computes, written once for every group: the tile of activations that pairs row `2k` with code row
   `k`'s low nibble and row `2k + 1` with its high one, the dequantized weight tile of a group, the chain of 28 products,
   and the block that a point stores. The two theorems at the end say that the body's own stores are these. -/
module

public import proofs.«01_k».proof.Proof.Gen.KernelIdeal.Value
public import Idealize.ShloMosaic.Lib.Pipeline.ValueKit
public import Idealize.ShloMosaic.Lib.Pipeline.ReadBack

@[expose] public section

set_option maxRecDepth 65536

noncomputable section

namespace Cert.KernelIdeal.Body

open Cert.KernelIdeal Cert.KernelIdeal.Gen Idealize.ShloMosaic Idealize.SL.Sem

variable {F : FTy → Type} [FloatOps F]

/-! ## The activations of one group -/

/-- The lane that output lane `l` of a half reads: `l / 2 + base`, a negative one wrapped. -/
def laneIdx (base : BitVec 32) : IVec S128x128 32 :=
  have v : IVec S128x128 32 := addi (shrsi (iota .tc S128x128 32 [1] iota_S128x128_d1_w32) (broadcast S128x128 1#32)) (broadcast S128x128 base)
  shapeCast S128x128 (shapeCast S128x128x1 (select (cmpi .slt v (broadcast S128x128 0#32)) (addi v (broadcast S128x128 128#32)) v)
    shapeCasts_S128x128_S128x128x1) shapeCasts_S128x128x1_S128x128

/-- The even lanes. -/
def evenLane : IVec S128x128 1 :=
  cmpi .eq (andi (iota .tc S128x128 32 [1] iota_S128x128_d1_w32) (broadcast S128x128 1#32)) (broadcast S128x128 0#32)

/-- One half of the interleaving: even lanes from `a`, odd lanes from `b`, both at `l / 2 + base`. -/
def half (a b : FVec F S128x128 .f32) (base : BitVec 32) : FVec F S128x128 .bf16 :=
  truncf .bf16 (select evenLane (dynamicGather 1 a (laneIdx base)) (dynamicGather 1 b (laneIdx base))) bitsLt_bf16_f32

/-- The 128 columns of `lo` and of `hi` interleaved: the two halves side by side. -/
def interleave (lo hi : Vec F S128x128 .bf16) : Vec F S128x256 .bf16 :=
  have a : FVec F S128x128 .f32 := extf .f32 (shapeCast S128x128 lo shapeCasts_S128x128_S128x128) bitsLt_bf16_f32
  have b : FVec F S128x128 .f32 := extf .f32 (shapeCast S128x128 hi shapeCasts_S128x128_S128x128) bitsLt_bf16_f32
  shapeCast S128x256 (concatenate S128x256 1 [⟨S128x128, half a b 0#32⟩, ⟨S128x128, half a b 64#32⟩]
    concatenates_S128x128_S128x128_S128x256_d1) shapeCasts_S128x256_S128x256

/-- Columns `128 g` to `128 g + 127` of the activations. -/
abbrev loRect (g : Fin 28) : Rect S128x7168 :=
  Rect.unit ![0, 128 * g.val] S128x128.size fun a => match a with
    | ⟨0, _⟩ => (by decide : 0 + 128 ≤ 128)
    | ⟨1, _⟩ => (by omega : 128 * g.val + 128 ≤ 7168)

/-- The same columns of the second half of the activations. -/
abbrev hiRect (g : Fin 28) : Rect S128x7168 :=
  Rect.unit ![0, 3584 + 128 * g.val] S128x128.size fun a => match a with
    | ⟨0, _⟩ => (by decide : 0 + 128 ≤ 128)
    | ⟨1, _⟩ => (by omega : 3584 + 128 * g.val + 128 ≤ 7168)

/-- Columns `256 g` to `256 g + 255`, group `g`'s place in the scratch. -/
abbrev tileRect (g : Fin 28) : Rect S128x7168 :=
  Rect.unit ![0, 256 * g.val] S128x256.size fun a => match a with
    | ⟨0, _⟩ => (by decide : 0 + 128 ≤ 128)
    | ⟨1, _⟩ => (by omega : 256 * g.val + 256 ≤ 7168)

/-- Group `g`'s interleaved activations. -/
def xTile (x : Vec F S128x7168 .bf16) (g : Fin 28) : Vec F S128x256 .bf16 :=
  interleave (View.ld x (loRect g)) (View.ld x (hiRect g))

/-! ## The weights of one group -/

/-- The signed nibbles of 128 rows of codes, row `8 r + s` being nibble `s` of word `r`. -/
def nibbles (codes : Vec F S128x512 .i8) : IVec S256x512 4 :=
  have w : IVec S32x512 32 := xori (bitcast S32x512 32 codes bitcasts_S128x512_w8_S32x512_w32) (broadcast S32x512 2290649224#32)
  have w3 : IVec S32x8x512 32 := broadcastTo S32x8x512 (shapeCast S32x1x512 (shapeCast S32x1x512 w shapeCasts_S32x512_S32x1x512)
    shapeCasts_S32x1x512_S32x1x512) broadcasts_S32x1x512_S32x8x512
  have up : IVec S32x8x512 32 := subi (broadcast S32x8x512 28#32) (muli (broadcast S32x8x512 4#32) (iota .tc S32x8x512 32 [1] iota_S32x8x512_d1_w32))
  shapeCast S256x512 (trunci 4 (shrsi (shli w3 up) (broadcast S32x8x512 28#32)) natLt_4_32) shapeCasts_S32x8x512_S256x512

/-- The two scale rows of a group, alternating over sixteen rows. -/
def scaleRows (pair : Vec F S2x512 .bf16) : FVec F S16x512 .bf16 :=
  have lo : FVec F S1x512 .bf16 := rowsOfParity 0 S1x512 pair bitcasts_S2x512_w16_S1x512_w32
  have hi : FVec F S1x512 .bf16 := rowsOfParity 1 S1x512 pair bitcasts_S2x512_w16_S1x512_w32
  interleaveRows S16x512
    (concatenate S8x512 0 [⟨S1x512, lo⟩, ⟨S1x512, lo⟩, ⟨S1x512, lo⟩, ⟨S1x512, lo⟩, ⟨S1x512, lo⟩, ⟨S1x512, lo⟩, ⟨S1x512, lo⟩, ⟨S1x512, lo⟩]
      concatenates_S1x512_S1x512_S1x512_S1x512_S1x512_S1x512_S1x512_S1x512_S8x512_d0)
    (concatenate S8x512 0 [⟨S1x512, hi⟩, ⟨S1x512, hi⟩, ⟨S1x512, hi⟩, ⟨S1x512, hi⟩, ⟨S1x512, hi⟩, ⟨S1x512, hi⟩, ⟨S1x512, hi⟩, ⟨S1x512, hi⟩]
      concatenates_S1x512_S1x512_S1x512_S1x512_S1x512_S1x512_S1x512_S1x512_S8x512_d0)
    bitcasts_S16x512_w16_S8x512_w32

/-- A group's dequantized weights: its 256 rows of nibbles, each times its scale row. -/
def weights (codes : Vec F S128x512 .i8) (pair : Vec F S2x512 .bf16) : FVec F S256x512 .bf16 :=
  shapeCast S256x512
    (mulf (shapeCast S16x16x512 (sitofp .bf16 (nibbles codes)) shapeCasts_S256x512_S16x16x512)
      (broadcastTo S16x16x512 (shapeCast S1x16x512 (scaleRows pair) shapeCasts_S16x512_S1x16x512) broadcasts_S1x16x512_S16x16x512))
    shapeCasts_S16x16x512_S256x512

/-- Group `g`'s 128 rows of codes. -/
abbrev codeRect (g : Fin 28) : Rect S3584x512 :=
  Rect.unit ![128 * g.val, 0] S128x512.size fun a => match a with
    | ⟨0, _⟩ => (by omega : 128 * g.val + 128 ≤ 3584)
    | ⟨1, _⟩ => (by decide : 0 + 512 ≤ 512)

/-- Group `g`'s two rows of scales, in the scratch that holds them in pairs. -/
abbrev pairRect (g : Fin 28) : Rect S56x512 :=
  Rect.unit ![2 * g.val, 0] S2x512.size fun a => match a with
    | ⟨0, _⟩ => (by omega : 2 * g.val + 2 ≤ 56)
    | ⟨1, _⟩ => (by decide : 0 + 512 ≤ 512)

/-- The scales in pairs: row `2 g` is row `g`, row `2 g + 1` is row `28 + g`. -/
def scalePairs (s : Vec F S56x512 .bf16) : Vec F S56x512 .bf16 :=
  k0_pay180 (View.ld s (Rect.unit ![0, 0] S28x512.size inb_S56x512_S28x512_0_0)) (View.ld s (Rect.unit ![28, 0] S28x512.size inb_S56x512_S28x512_28_0))

/-! ## The products -/

/-- Group `g`'s product. -/
def dot (X : Fin 28 → Vec F S128x256 .bf16) (codes : Vec F S3584x512 .i8) (s : Vec F S56x512 .bf16) (g : Fin 28) : FVec F S128x512 .f32 :=
  matmul dot_S128x256_S256x512_S128x512_1_0_0_1_n_n none (X g)
    (weights (View.ld codes (codeRect g)) (View.ld (scalePairs s) (pairRect g))) (constant S128x512 .f32 0x00000000#32)

/-- The products of groups `0` to `n`, added in order. -/
def chain (X : Fin 28 → Vec F S128x256 .bf16) (codes : Vec F S3584x512 .i8) (s : Vec F S56x512 .bf16) : (n : ℕ) → n < 28 → FVec F S128x512 .f32
  | 0, h => dot X codes s ⟨0, h⟩
  | n + 1, h => addf (chain X codes s n (Nat.lt_of_succ_lt h)) (dot X codes s ⟨n + 1, h⟩)

/-- The block that a point stores: the gate's chain times its logistic, times the other chain. -/
def block (X : Fin 28 → Vec F S128x256 .bf16) (gc : Vec F S3584x512 .i8) (gs : Vec F S56x512 .bf16) (uc : Vec F S3584x512 .i8)
    (us : Vec F S56x512 .bf16) : FVec F S128x512 .bf16 :=
  have gate : FVec F S128x512 .f32 := chain X gc gs 27 (by decide)
  truncf .bf16 (mulf (mulf gate (logistic gate)) (chain X uc us 27 (by decide))) bitsLt_bf16_f32

/-! ## The body's stores -/

variable (c : Dev nD) (i : grid0.Coords) (arg1 : Memref sig .tc .vmem S128x7168 .bf16) (harg1 : arg1.IsWhole) (arg2 : Memref sig .tc .vmem S3584x512 .i8) (harg2 : arg2.IsWhole) (arg3 : Memref sig .tc .vmem S56x512 .bf16) (harg3 : arg3.IsWhole) (arg4 : Memref sig .tc .vmem S3584x512 .i8) (harg4 : arg4.IsWhole) (arg5 : Memref sig .tc .vmem S56x512 .bf16) (harg5 : arg5.IsWhole) (arg6 : Memref sig .tc .vmem S128x512 .bf16) (harg6 : arg6.IsWhole) (arg7 : Memref sig .tc .vmem S128x7168 .bf16) (harg7 : arg7.IsWhole) (arg8 : Memref sig .tc .vmem S56x512 .bf16) (harg8 : arg8.IsWhole) (arg9 : Memref sig .tc .vmem S56x512 .bf16) (harg9 : arg9.IsWhole)
    (x0 : Vec F S128x7168 .bf16) (x1 : Vec F S3584x512 .i8) (x2 : Vec F S56x512 .bf16) (x3 : Vec F S3584x512 .i8) (x4 : Vec F S56x512 .bf16) (xs0 : Vec F S128x7168 .bf16)

/-- A point that reads the activations out of the scratch stores the block over the scratch's tiles. -/
theorem out_B (hc0 : ¬cond0_0 i) : out0_B_5 c i arg1 harg1 arg2 harg2 arg3 harg3 arg4 harg4 arg5 harg5 arg6 harg6 arg7 harg7 arg8 harg8 arg9 harg9 hc0 x0 x1 x2 x3 x4 xs0
    = block (fun g => View.ld xs0 (tileRect g)) x1 x2 x3 x4 := by
  frame_open
  simp (disch := decide) only [↓ View.readCov_skip, ↓ View.readCov_cons_toLoadRect, ↓ View.readCov_fill]
  frame_out
  rfl

/-- The point that fills the scratch stores the block over the tiles that it fills it with. -/
theorem out_A (hc0 : cond0_0 i) : out0_A_5 c i arg1 harg1 arg2 harg2 arg3 harg3 arg4 harg4 arg5 harg5 arg6 harg6 arg7 harg7 arg8 harg8 arg9 harg9 hc0 x0 x1 x2 x3 x4
    = block (xTile x0) x1 x2 x3 x4 := by
  frame_open
  simp (disch := decide) only [↓ View.readCov_skip, ↓ View.readCov_cons_toLoadRect, ↓ View.readCov_fill]
  frame_out
  rfl

/-- What that point leaves in the scratch, read back at a group's tile, is the tile. -/
theorem scratch_A (hc0 : cond0_0 i) (g : Fin 28) : View.ld (sout0_A_0 c i arg1 harg1 arg2 harg2 arg3 harg3 arg4 harg4 arg5 harg5 arg6 harg6 arg7 harg7 arg8 harg8 arg9 harg9 hc0 x0 x1 x2 x3 x4) (tileRect g)
    = xTile x0 g := by
  have hL : sout0_A_0 c i arg1 harg1 arg2 harg2 arg3 harg3 arg4 harg4 arg5 harg5 arg6 harg6 arg7 harg7 arg8 harg8 arg9 harg9 hc0 x0 x1 x2 x3 x4
      = View.canon (List.ofFn fun k : Fin 28 => (⟨tileRect k.rev, xTile x0 k.rev⟩ : View.Piece (Elt F) S128x7168 .bf16)) := by
    frame_open
    simp (disch := decide) only [↓ View.readCov_skip, ↓ View.readCov_cons_toLoadRect, ↓ View.readCov_fill]
    frame_out
    rfl
  rw [hL]
  funext y
  refine View.canon_ofFn_eq_of_forall (fun k : Fin 28 => tileRect k.rev) (fun k => xTile x0 k.rev) _ _ ⟨g.rev, ?_⟩ ?_
  · rw [Fin.rev_rev]
    exact (tileRect g).idx_mem y
  · intro k x hx
    have h0 : 0 + 1 * (x 0).val = 0 + 1 * (y 0).val := congrArg (fun z : S128x7168.Idx => (z 0).val) hx
    have h1 : 256 * k.rev.val + 1 * (x 1).val = 256 * g.val + 1 * (y 1).val := congrArg (fun z : S128x7168.Idx => (z 1).val) hx
    have hx1 : (x 1).val < 256 := (x 1).isLt
    have hy1 : (y 1).val < 256 := (y 1).isLt
    have hk : k.rev = g := Fin.ext (by omega)
    have hxy : x = y := funext fun a => match a with
      | ⟨0, _⟩ => Fin.ext (by show (x 0).val = (y 0).val; omega)
      | ⟨1, _⟩ => Fin.ext (by show (x 1).val = (y 1).val; omega)
    rw [hk, hxy]

end Cert.KernelIdeal.Body
-- ==== Proof.Column.lean ====
/- The common value of both programs at one row of activations and one column of weights, over the extended reals: the sum
   over the low nibbles' rows plus the sum over the high nibbles' rows, each weight a code less eight times its group's
   scale; and the same sum taken group by group with the two nibbles of each code row side by side. -/
module

public import Idealize.ShloMosaic.PureOps.Ideal
public import Idealize.ShloMosaic.Lib.Pipeline.ValueKit

@[expose] public section

noncomputable section

namespace Cert.Column

open Idealize.ShloMosaic

/-- The weight in a byte's low nibble: the nibble less eight. -/
def low (q : BitVec 8) : EReal := (((q.toNat % 16 : ℕ) - 8 : ℤ) : ℝ)

/-- The weight in a byte's high nibble. -/
def high (q : BitVec 8) : EReal := (((q.toNat / 16 : ℕ) - 8 : ℤ) : ℝ)

/-- One row of activations times one column of dequantized weights. -/
def product (X : Fin 7168 → EReal) (Q : Fin 3584 → BitVec 8) (S : Fin 56 → EReal) : EReal :=
  ∑ d : Fin 3584, X ⟨d.val, by omega⟩ * (low (Q d) * S ⟨d.val / 128, by omega⟩)
    + ∑ d : Fin 3584, X ⟨3584 + d.val, by omega⟩ * (high (Q d) * S ⟨28 + d.val / 128, by omega⟩)

/-- The gate times its logistic, times the other product. -/
def gated (g u : EReal) : EReal := g * Ideal.logistic g * u

/-- A sum over 256 rows is the sum over the 128 pairs of an even row and the next. -/
theorem sum_pairs (f : Fin 256 → EReal) :
    ∑ R : Fin 256, f R = ∑ k : Fin 128, (f ⟨2 * k.val, by omega⟩ + f ⟨2 * k.val + 1, by omega⟩) := by
  rw [← Fin.sum_mul_add_fin 128 2 f]
  refine Finset.sum_congr rfl fun k _ => ?_
  rw [Fin.sum_univ_two]
  congr 2 <;> exact Fin.ext (by simp; omega)

/-- A sum over the 3584 rows is the sum over 28 groups of 128. -/
theorem sum_groups (f : Fin 3584 → EReal) :
    ∑ g : Fin 28, ∑ k : Fin 128, f ⟨128 * g.val + k.val, by omega⟩ = ∑ d : Fin 3584, f d := by
  rw [← Fin.sum_mul_add_fin 28 128 f]
  refine Finset.sum_congr rfl fun g _ => Finset.sum_congr rfl fun k _ => ?_
  congr 1
  exact Fin.ext (by simp; omega)

/-- The product taken group by group, the low and the high nibble of a code row side by side. -/
theorem product_groups (X : Fin 7168 → EReal) (Q : Fin 3584 → BitVec 8) (S : Fin 56 → EReal) :
    ∑ g : Fin 28, ∑ k : Fin 128,
      (X ⟨128 * g.val + k.val, by omega⟩ * (low (Q ⟨128 * g.val + k.val, by omega⟩) * S ⟨g.val, by omega⟩)
        + X ⟨3584 + 128 * g.val + k.val, by omega⟩ * (high (Q ⟨128 * g.val + k.val, by omega⟩) * S ⟨28 + g.val, by omega⟩))
      = product X Q S := by
  unfold product
  rw [← sum_groups, ← sum_groups, ← Finset.sum_add_distrib]
  refine Finset.sum_congr rfl fun g _ => ?_
  rw [← Finset.sum_add_distrib]
  refine Finset.sum_congr rfl fun k _ => ?_
  have hd : (128 * g.val + k.val) / 128 = g.val := by omega
  have ha : 3584 + 128 * g.val + k.val = 3584 + (128 * g.val + k.val) := by omega
  simp only [hd, ha]

end Cert.Column
-- ==== Proof.Nibbles.lean ====
/- The signed nibbles at an index: row `R` of a group is nibble `R % 2` of code row `R / 2`, less eight. -/
module

public import proofs.«01_k».proof.Proof.Body
public import proofs.«01_k».proof.Proof.Column
public import Idealize.ShloMosaic.Lib.Pointwise
public import Idealize.ShloMosaic.Lib.BitcastFour

@[expose] public section

set_option maxRecDepth 16384

noncomputable section

namespace Cert.KernelIdeal.Body

open Cert.KernelIdeal Cert.KernelIdeal.Gen Idealize.ShloMosaic Idealize.SL.Sem

/-- A word with its top bits of nibbles flipped, shifted left until nibble `s` is on top and back with its sign, is that
    nibble with its top bit flipped. -/
theorem shifted_nibble (w : BitVec 32) : ∀ s : Fin 8,
    BitVec.setWidth 4 (IntOp.shrsi .vector (IntOp.shli .vector (IntOp.xori w 2290649224#32)
        (IntOp.subi 28#32 (IntOp.muli 4#32 (BitVec.ofNat 32 s.val)))) 28#32)
      = BitVec.extractLsb' (4 * s.val) 4 w ^^^ 8#4 := by
  intro s
  have hs : (IntOp.subi 28#32 (IntOp.muli 4#32 (BitVec.ofNat 32 s.val))).toNat = 28 - 4 * s.val := by
    revert s
    decide
  have hlt := s.isLt
  unfold IntOp.shrsi IntOp.shli
  rw [if_pos (by decide), if_pos (by omega)]
  apply BitVec.eq_of_getLsbD_eq
  intro i hi
  have hc : (2290649224#32 : BitVec 32).getLsbD (4 * s.val + i) = (8#4 : BitVec 4).getLsbD i := by
    interval_cases i <;> (revert s; decide)
  have ha : 28 + i - (28 - 4 * s.val) = 4 * s.val + i := by omega
  have hb : 28 + i < 32 := by omega
  have hd : ¬ 28 + i < 28 - 4 * s.val := by omega
  have he : ¬ 32 ≤ i := by omega
  simp [IntOp.xori, BitVec.getLsbD_sshiftRight, hi, hs, ha, hb, hd, he]
  simp only [← BitVec.getLsbD_eq_getElem, hc]

/-- Nibble `p` of a byte with its top bit flipped, read signed, is the nibble less eight. -/
theorem flipped_toInt : ∀ q : BitVec 8, (BitVec.extractLsb' 0 4 q ^^^ 8#4).toInt = (q.toNat % 16 : ℕ) - 8
    ∧ (BitVec.extractLsb' 4 4 q ^^^ 8#4).toInt = (q.toNat / 16 : ℕ) - 8 := by decide +kernel

/-- Row `R` of a group is nibble `R % 2` of code row `R / 2`, its top bit flipped. -/
theorem nibbles_apply (codes : Vec Ideal S128x512 .i8) (R : Fin 256) (l : Fin 512) :
    nibbles codes (ix2 R l) = BitVec.extractLsb' (4 * (R.val % 2)) 4 (codes (ix2 ⟨R.val / 2, by omega⟩ l) : BitVec 8) ^^^ 8#4 := by
  pointwise [nibbles]
  rw [shifted_nibble _ ⟨R.val % 8, by omega⟩]
  congr 1
  apply BitVec.eq_of_getLsbD_eq
  intro i hi
  rw [BitVec.getLsbD_extractLsb', BitVec.getLsbD_extractLsb']
  have hm : (4 * (R.val % 8) + i) % 8 = 4 * (R.val % 2) + i := by omega
  refine congrArg (decide (i < 4) && ·) ((bitcast_8_32_getLsbD_ix2 (R := 128) (r := 32) (n := 512) codes
    bitcasts_S128x512_w8_S32x512_w32 ⟨R.val / 8, by omega⟩ l (4 * (R.val % 8) + i) (by omega) ⟨R.val / 2, by omega⟩
    (by show R.val / 2 = 4 * (R.val / 8) + (4 * (R.val % 8) + i) / 8; omega)).trans ?_)
  rw [hm]
  rfl

/-- The weight of an even row, before its scale. -/
theorem nibbles_even (codes : Vec Ideal S128x512 .i8) (k : Fin 128) (l : Fin 512) :
    (FloatOps.sitofp (F := Ideal) .bf16 (nibbles codes (ix2 ⟨2 * k.val, by omega⟩ l)) : EReal) = Column.low (codes (ix2 k l)) := by
  rw [nibbles_apply]
  have h0 : 4 * (2 * k.val % 2) = 0 := by omega
  have h1 : 2 * k.val / 2 = k.val := by omega
  simp only [h0, h1]
  show (((BitVec.extractLsb' 0 4 (codes (ix2 k l) : BitVec 8) ^^^ 8#4).toInt : ℝ) : EReal) = _
  rw [(flipped_toInt _).1]
  rfl

/-- The weight of an odd row, before its scale. -/
theorem nibbles_odd (codes : Vec Ideal S128x512 .i8) (k : Fin 128) (l : Fin 512) :
    (FloatOps.sitofp (F := Ideal) .bf16 (nibbles codes (ix2 ⟨2 * k.val + 1, by omega⟩ l)) : EReal) = Column.high (codes (ix2 k l)) := by
  rw [nibbles_apply]
  have h0 : 4 * ((2 * k.val + 1) % 2) = 4 := by omega
  have h1 : (2 * k.val + 1) / 2 = k.val := by omega
  simp only [h0, h1]
  show (((BitVec.extractLsb' 4 4 (codes (ix2 k l) : BitVec 8) ^^^ 8#4).toInt : ℝ) : EReal) = _
  rw [(flipped_toInt _).2]
  rfl

end Cert.KernelIdeal.Body
-- ==== Proof.Block.lean ====
/- What a point's block holds at an index: the gated column products of the blocks that the point reads. -/
module

public import proofs.«01_k».proof.Proof.Nibbles

@[expose] public section

set_option maxRecDepth 16384

noncomputable section

namespace Cert.KernelIdeal.Body

open Cert.KernelIdeal Cert.KernelIdeal.Gen Idealize.ShloMosaic Idealize.SL.Sem

/-! ## The activations -/

/-- The lanes that the two halves read. -/
theorem laneIdx_apply (r l : Fin 128) :
    (laneIdx 0#32 (ix2 r l)).toNat % 128 = l.val / 2 ∧ (laneIdx 64#32 (ix2 r l)).toNat % 128 = 64 + l.val / 2 := by
  pointwise [laneIdx]
  revert l
  decide +kernel

/-- Which lanes are even. -/
theorem evenLane_apply (r l : Fin 128) : evenLane (ix2 r l) = if l.val % 2 = 0 then 1#1 else 0#1 := by
  pointwise [evenLane]
  revert l
  decide +kernel

/-- A half at lane `l`: `a` at an even lane, `b` at an odd one, both at the lane `p` that the lane reads. -/
theorem half_apply (a b : FVec Ideal S128x128 .f32) (base : BitVec 32) (r l p : Fin 128) (hp : (laneIdx base (ix2 r l)).toNat % 128 = p.val) :
    half a b base (ix2 r l) = if l.val % 2 = 0 then a (ix2 r p) else b (ix2 r p) := by
  pointwise [half]
  rw [evenLane_apply]
  simp only [hp]
  split <;> rfl

/-- The interleaving at lane `R` is lane `R / 2` of the first array at an even lane, of the second at an odd one. -/
theorem interleave_apply (lo hi : Vec Ideal S128x128 .bf16) (r : Fin 128) (R : Fin 256) :
    interleave lo hi (ix2 r R) = if R.val % 2 = 0 then lo (ix2 r ⟨R.val / 2, by omega⟩) else hi (ix2 r ⟨R.val / 2, by omega⟩) := by
  pointwise [interleave]
  split
  · rw [half_apply _ _ _ _ _ ⟨R.val / 2, by omega⟩ (laneIdx_apply _ _).1]
    rfl
  · rw [half_apply _ _ _ _ _ ⟨R.val / 2, by omega⟩ ((laneIdx_apply _ _).2.trans (by dsimp only; omega))]
    have : (R.val - 128) % 2 = R.val % 2 := by omega
    simp only [this]
    rfl

/-- An even lane of a group's tile. -/
theorem xTile_even (x : Vec Ideal S128x7168 .bf16) (g : Fin 28) (r k : Fin 128) :
    xTile x g (ix2 r ⟨2 * k.val, by omega⟩) = x (ix2 r ⟨128 * g.val + k.val, by omega⟩) := by
  unfold xTile
  rw [interleave_apply, if_pos (by dsimp only; omega)]
  refine congrArg x ?_
  funext a
  match a with
  | ⟨0, _⟩ => exact Fin.ext (by show 0 + 1 * r.val = r.val; omega)
  | ⟨1, _⟩ => exact Fin.ext (by show 128 * g.val + 1 * (2 * k.val / 2) = 128 * g.val + k.val; omega)

/-- An odd lane of a group's tile. -/
theorem xTile_odd (x : Vec Ideal S128x7168 .bf16) (g : Fin 28) (r k : Fin 128) :
    xTile x g (ix2 r ⟨2 * k.val + 1, by omega⟩) = x (ix2 r ⟨3584 + 128 * g.val + k.val, by omega⟩) := by
  unfold xTile
  rw [interleave_apply, if_neg (by dsimp only; omega)]
  refine congrArg x ?_
  funext a
  match a with
  | ⟨0, _⟩ => exact Fin.ext (by show 0 + 1 * r.val = r.val; omega)
  | ⟨1, _⟩ => exact Fin.ext (by show 3584 + 128 * g.val + 1 * ((2 * k.val + 1) / 2) = 3584 + 128 * g.val + k.val; omega)

/-! ## The weights -/

/-- The scale of row `a` of sixteen is row `a % 2` of the pair. -/
theorem scaleRows_apply (pair : Vec Ideal S2x512 .bf16) (a : Fin 16) (l : Fin 512) :
    scaleRows pair (ix2 a l) = pair (ix2 ⟨a.val % 2, by omega⟩ l) := by
  pointwise [scaleRows]
  repeat' split
  all_goals (congr 2; exact Fin.ext (by dsimp only; omega))

/-- A group's weight at row `R`. -/
theorem weights_apply (codes : Vec Ideal S128x512 .i8) (pair : Vec Ideal S2x512 .bf16) (R : Fin 256) (l : Fin 512) :
    weights codes pair (ix2 R l)
      = (FloatOps.sitofp (F := Ideal) .bf16 (nibbles codes (ix2 R l)) : EReal) * pair (ix2 ⟨R.val % 2, by omega⟩ l) := by
  pointwise [weights]
  rw [scaleRows_apply]
  have h : R.val % 16 % 2 = R.val % 2 := by omega
  simp only [h]

/-- The paired scales, row by row. -/
theorem scalePairs_apply (s : Vec Ideal S56x512 .bf16) (r : Fin 56) (l : Fin 512) :
    scalePairs s (ix2 r l) = if r.val % 2 = 0 then s (ix2 ⟨r.val / 2, by omega⟩ l) else s (ix2 ⟨28 + r.val / 2, by omega⟩ l) := by
  pointwise [scalePairs, k0_pay180]

/-- Group `g`'s codes at a row. -/
theorem codes_apply (codes : Vec Ideal S3584x512 .i8) (g : Fin 28) (k : Fin 128) (l : Fin 512) :
    View.ld codes (codeRect g) (ix2 k l) = codes (ix2 ⟨128 * g.val + k.val, by omega⟩ l) := by
  refine congrArg codes ?_
  funext a
  match a with
  | ⟨0, _⟩ => exact Fin.ext (by show 128 * g.val + 1 * k.val = 128 * g.val + k.val; omega)
  | ⟨1, _⟩ => exact Fin.ext (by show 0 + 1 * l.val = l.val; omega)

/-- Group `g`'s two scale rows. -/
theorem pair_apply (s : Vec Ideal S56x512 .bf16) (g : Fin 28) (p : Fin 2) (l : Fin 512) :
    View.ld (scalePairs s) (pairRect g) (ix2 p l) = s (ix2 ⟨28 * p.val + g.val, by omega⟩ l) := by
  have h : (pairRect g).idx (ix2 p l) = (ix2 ⟨2 * g.val + p.val, by omega⟩ l : S56x512.Idx) := by
    funext a
    match a with
    | ⟨0, _⟩ => exact Fin.ext (by show 2 * g.val + 1 * p.val = 2 * g.val + p.val; omega)
    | ⟨1, _⟩ => exact Fin.ext (by show 0 + 1 * l.val = l.val; omega)
  show scalePairs s ((pairRect g).idx (ix2 p l)) = _
  rw [h, scalePairs_apply]
  split <;> (congr 2; exact Fin.ext (by dsimp only at *; omega))

/-! ## The products -/

/-- Group `g`'s product at an index: over the code rows of the group, the low nibble's product and the high nibble's. -/
theorem dot_apply (x : Vec Ideal S128x7168 .bf16) (codes : Vec Ideal S3584x512 .i8) (s : Vec Ideal S56x512 .bf16) (g : Fin 28) (r : Fin 128) (l : Fin 512) :
    dot (xTile x) codes s g (ix2 r l) = ∑ k : Fin 128,
      ((x (ix2 r ⟨128 * g.val + k.val, by omega⟩) : EReal)
          * (Column.low (codes (ix2 ⟨128 * g.val + k.val, by omega⟩ l)) * s (ix2 ⟨g.val, by omega⟩ l))
        + x (ix2 r ⟨3584 + 128 * g.val + k.val, by omega⟩)
          * (Column.high (codes (ix2 ⟨128 * g.val + k.val, by omega⟩ l)) * s (ix2 ⟨28 + g.val, by omega⟩ l))) := by
  pointwise [dot]
  rw [Column.sum_pairs]
  refine Finset.sum_congr rfl fun k _ => ?_
  rw [xTile_even, xTile_odd, weights_apply, weights_apply, nibbles_even, nibbles_odd, codes_apply, pair_apply, pair_apply]
  have h0 : 28 * (2 * k.val % 2) + g.val = g.val := by omega
  have h1 : 28 * ((2 * k.val + 1) % 2) + g.val = 28 + g.val := by omega
  simp only [h0, h1]

/-- The chain at an index is the sum of the groups' products. -/
theorem chain_apply (X : Fin 28 → Vec Ideal S128x256 .bf16) (codes : Vec Ideal S3584x512 .i8) (s : Vec Ideal S56x512 .bf16) (i : S128x512.Idx) :
    ∀ (n : ℕ) (h : n < 28), (chain X codes s n h i : EReal) = ∑ g : Fin (n + 1), (dot X codes s ⟨g.val, by omega⟩ i : EReal)
  | 0, h => by
    rw [Fin.sum_univ_one]
    rfl
  | n + 1, h => by
    rw [Fin.sum_univ_castSucc]
    exact congrArg (· + (dot X codes s ⟨n + 1, h⟩ i : EReal)) (chain_apply X codes s i n (Nat.lt_of_succ_lt h))

/-- The whole chain at an index is the column product. -/
theorem chain_eq (x : Vec Ideal S128x7168 .bf16) (codes : Vec Ideal S3584x512 .i8) (s : Vec Ideal S56x512 .bf16) (r : Fin 128) (l : Fin 512) :
    (chain (xTile x) codes s 27 (by decide) (ix2 r l) : EReal)
      = Column.product (fun d => x (ix2 r d)) (fun d => codes (ix2 d l)) (fun g => s (ix2 g l)) := by
  rw [chain_apply, ← Column.product_groups]
  exact Finset.sum_congr rfl fun g _ => dot_apply x codes s g r l

/-- The block at an index. -/
theorem block_apply (x : Vec Ideal S128x7168 .bf16) (gc : Vec Ideal S3584x512 .i8) (gs : Vec Ideal S56x512 .bf16) (uc : Vec Ideal S3584x512 .i8)
    (us : Vec Ideal S56x512 .bf16) (r : Fin 128) (l : Fin 512) :
    block (xTile x) gc gs uc us (ix2 r l) = Column.gated
      (Column.product (fun d => x (ix2 r d)) (fun d => gc (ix2 d l)) (fun g => gs (ix2 g l)))
      (Column.product (fun d => x (ix2 r d)) (fun d => uc (ix2 d l)) (fun g => us (ix2 g l))) := by
  rw [← chain_eq, ← chain_eq]
  pointwise [block]
  rfl

end Cert.KernelIdeal.Body
-- ==== Proof.Array.lean ====
/- What the kernel's result holds: at each index the gated column products of the argument arrays. The scratch holds the
   first point's tiles at every point, and every point reads the same activations. -/
module

public import proofs.«01_k».proof.Proof.Block
public import Idealize.ShloMosaic.Lib.Claim

@[expose] public section

set_option maxRecDepth 16384

noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ) (c : Dev nD)

/-- The printed index maps: the activations are one block, the others' blocks are column tile `t`. -/
theorem idx (t : Fin cfg0.N) : win0_0.index t = ![0, 0] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, win0_0.index t = ![0, 0] ∧ win0_1.index t = ![0, t.val] ∧ win0_2.index t = ![0, t.val]
    ∧ win0_3.index t = ![0, t.val] ∧ win0_4.index t = ![0, t.val] ∧ win0_5.index t = ![0, t.val]) t

/-- The activations that every point reads, at row `r`. -/
theorem iblk0 (t : Fin cfg0.N) (r : Fin 128) (d : Fin 7168) :
    iblk m c 0 t (ix2 r d) = m ((c : Thread nD τ).loc main_arg0) (ix3 r 0 d) := by
  blk_point [iblk, V, idx t]

/-- Every point reads the same activations. -/
theorem iblk0_eq (t t' : Fin cfg0.N) : iblk m c 0 t = iblk m c 0 t' := by
  funext y
  rw [eq_ix2 y]
  exact (iblk0 m c t _ _).trans (iblk0 m c t' _ _).symm

/-- The scratch after each point, read at a group's tile: the tile of the activations. -/
theorem scratch_eq (g : Fin 28) (t : Fin cfg0.N) : ∀ (n : ℕ) (hn : n < cfg0.N),
    View.ld (outsAt0 m c n hn).2 (tileRect g) = xTile (iblk m c 0 t) g := by
  intro n
  induction n with
  | zero =>
    intro hn
    rw [outsAt0_A m c ⟨0, hn⟩ (Nat.zero_mod _), iblk0_eq m c t ⟨0, hn⟩]
    dsimp only
    exact scratch_A (F := Ideal) ..
  | succ n ih =>
    intro hn
    by_cases h0 : (n + 1) % 8 = 0
    · rw [outsAt0_A m c ⟨n + 1, hn⟩ h0, iblk0_eq m c t ⟨n + 1, hn⟩]
      dsimp only
      exact scratch_A (F := Ideal) ..
    · rw [outsAt0_B m c ⟨n + 1, hn⟩ h0]
      exact ih _

/-- What a point stores. -/
theorem point (t : Fin cfg0.N) : (outsAt0 m c t.val t.isLt).1
    = block (xTile (iblk m c 0 t)) (iblk m c 1 t) (iblk m c 2 t) (iblk m c 3 t) (iblk m c 4 t) := by
  by_cases h0 : t.val % 8 = 0
  · rw [outsAt0_A m c t h0]
    dsimp only
    exact out_A (F := Ideal) ..
  · rw [outsAt0_B m c t h0]
    dsimp only
    refine (out_B (F := Ideal) ..).trans ?_
    congr 1
    funext g
    exact scratch_eq m c g t _ _

/-- The gate's codes that point `t` reads: their column `l` is column `512 t + l` of the argument. -/
theorem iblk1 (t : Fin cfg0.N) (d : Fin 3584) (l : Fin 512) (n : Fin 4096) (hn : n.val = 512 * t.val + l.val) :
    iblk m c 1 t (ix2 d l) = m ((c : Thread nD τ).loc main_arg1) (ix2 d n) := by
  blk_ext [iblk, V, idx t]

/-- The gate's scales that point `t` reads. -/
theorem iblk2 (t : Fin cfg0.N) (g : Fin 56) (l : Fin 512) (n : Fin 4096) (hn : n.val = 512 * t.val + l.val) :
    iblk m c 2 t (ix2 g l) = m ((c : Thread nD τ).loc main_arg2) (ix2 g n) := by
  blk_ext [iblk, V, idx t]

/-- The other matrix's codes that point `t` reads. -/
theorem iblk3 (t : Fin cfg0.N) (d : Fin 3584) (l : Fin 512) (n : Fin 4096) (hn : n.val = 512 * t.val + l.val) :
    iblk m c 3 t (ix2 d l) = m ((c : Thread nD τ).loc main_arg3) (ix2 d n) := by
  blk_ext [iblk, V, idx t]

/-- The other matrix's scales that point `t` reads. -/
theorem iblk4 (t : Fin cfg0.N) (g : Fin 56) (l : Fin 512) (n : Fin 4096) (hn : n.val = 512 * t.val + l.val) :
    iblk m c 4 t (ix2 g l) = m ((c : Thread nD τ).loc main_arg4) (ix2 g n) := by
  blk_ext [iblk, V, idx t]

/-- A column product of the arguments. -/
def column (q : Vec Ideal S3584x4096 .i8) (s : Vec Ideal S56x4096 .bf16) (r : Fin 128) (n : Fin 4096) : EReal :=
  Column.product (fun d => m ((c : Thread nD τ).loc main_arg0) (ix3 r 0 d)) (fun d => q (ix2 d n)) (fun g => s (ix2 g n))

/-- The result. -/
def result : Vec Ideal S128x4096 .bf16 := fun i => Column.gated
  (column m c (m ((c : Thread nD τ).loc main_arg1)) (m ((c : Thread nD τ).loc main_arg2)) (i 0) (i 1))
  (column m c (m ((c : Thread nD τ).loc main_arg3)) (m ((c : Thread nD τ).loc main_arg4)) (i 0) (i 1))

/-- A point's block at an index is the result at the index's place in the array. -/
theorem point_apply (t : Fin cfg0.N) (r : Fin 128) (l : Fin 512) (n : Fin 4096) (hn : n.val = 512 * t.val + l.val) :
    block (xTile (iblk m c 0 t)) (iblk m c 1 t) (iblk m c 2 t) (iblk m c 3 t) (iblk m c 4 t) (ix2 r l) = result m c (ix2 r n) := by
  rw [block_apply]
  simp only [iblk0, iblk1 m c t _ l n hn, iblk2 m c t _ l n hn, iblk3 m c t _ l n hn, iblk4 m c t _ l n hn]
  rfl

/-- The array after the run. -/
theorem arr_eq : (dats m 0 c).arrAt 5 cfg0.N = result m c := by
  refine (dats m 0 c).arrAt_eq_of_covers 5 _ (by decide +kernel) fun t hf y => ?_
  blk_simp
  rw [after0_5, point]
  have h0 : ((win0_5.blk t).view.emb y 0 : ℕ) = (y 0).val := by blk_simp [idx t]
  have h1 : ((win0_5.blk t).view.emb y 1 : ℕ) = 512 * t.val + (y 1).val := by blk_simp [idx t]; omega
  generalize (win0_5.blk t).view.emb y = j at h0 h1 ⊢
  have hj : j = (ix2 (j 0 : Fin 128) (j 1 : Fin 4096) : S128x4096.Idx) := eq_ix2 j
  have hy : y = (ix2 (j 0 : Fin 128) (y 1 : Fin 512) : S128x512.Idx) := by
    funext a
    match a with
    | ⟨0, _⟩ => exact Fin.ext h0.symm
    | ⟨1, _⟩ => rfl
  rw [hj, hy]
  exact point_apply m c t _ _ _ h1

end Cert.KernelIdeal.Body
-- ==== Proof.Reference.lean ====
/- What the reference computes, at one index of its result: the gate's column product times its logistic, times the other
   column product. -/
module

public import proofs.«01_k».proof.Proof.Gen.ReferenceIdeal.Run
public import proofs.«01_k».proof.Proof.Column
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Idealize.SL.Sem

variable {F : FTy → Type} [FloatOps F]

/-! ## The result's term, its parts named -/

/-- A half's weights: codes less eight, times the scale of their group of 128 rows. -/
def weights (q : IVec S3584x4096 32) (s : FVec F S28x4096 .bf16) : FVec F S3584x4096 .bf16 :=
  shapeCast S3584x4096 (mulf (shapeCast S28x128x4096 (subf (sitofp .bf16 q) (broadcastInDim S3584x4096 ![] bcast_S_S3584x4096 (constant S_ .bf16 0x4100#16)))
      shapeCasts_S3584x4096_S28x128x4096)
    (broadcastInDim S28x128x4096 ![0, 1, 2] bcast_S28x1x4096_S28x128x4096_0_1_2 (broadcastInDim S28x1x4096 ![0, 2] bcast_S28x4096_S28x1x4096_0_2 s)))
    shapeCasts_S28x128x4096_S3584x4096

/-- The low nibbles of the codes. -/
def low (q : IVec S3584x4096 8) : IVec S3584x4096 32 :=
  andi (extui 32 q natLt_8_32) (broadcastInDim S3584x4096 ![] bcast_S_S3584x4096 (constantI S_ 32 15#32))

/-- The high nibbles of the codes. -/
def high (q : IVec S3584x4096 8) : IVec S3584x4096 32 :=
  Host.shrsi (extui 32 q natLt_8_32) (broadcastInDim S3584x4096 ![] bcast_S_S3584x4096 (constantI S_ 32 4#32))

/-- The activations times the whole dequantized matrix: the two halves' products, added. -/
def product (x : FVec F S128x1x7168 .bf16) (q : IVec S3584x4096 8) (s : FVec F S56x4096 .bf16) : FVec F S128x1x4096 .f32 :=
  addf (Host.dotGeneral dot_S128x1x3584_S3584x4096_S128x1x4096_2_0_01_1_n_n none (extractStridedSlice S128x1x3584 ![0, 0, 0] x slices_S128x1x7168_S128x1x3584_0_0_0)
      (weights (low q) (extractStridedSlice S28x4096 ![0, 0] s slices_S56x4096_S28x4096_0_0)))
    (Host.dotGeneral dot_S128x1x3584_S3584x4096_S128x1x4096_2_0_01_1_n_n none (extractStridedSlice S128x1x3584 ![0, 0, 3584] x slices_S128x1x7168_S128x1x3584_0_0_3584)
      (weights (high q) (extractStridedSlice S28x4096 ![28, 0] s slices_S56x4096_S28x4096_28_0)))

/-- The gate times its logistic, times the other product. -/
def finish (g u : FVec F S128x1x4096 .f32) : FVec F S128x4096 .bf16 :=
  have one : FVec F S128x1x4096 .f32 := broadcastInDim S128x1x4096 ![] bcast_S_S128x1x4096 (constant S_ .f32 0x3F800000#32)
  shapeCast S128x4096 (truncf .bf16 (mulf (mulf g (Host.divf one (addf one (Host.exp (Host.negf g))))) u) bitsLt_bf16_f32) shapeCasts_S128x1x4096_S128x4096

/-- The result is these parts of the arguments. -/
theorem res_eq (m : (ℓ : Loc nD τ sig) → Buf (Elt F) ℓ) (c : Dev nD) :
    Value.res_out0 m c = finish (product (m ((c.tc : Thread nD τ).loc main_arg0)) (m ((c.tc : Thread nD τ).loc main_arg1)) (m ((c.tc : Thread nD τ).loc main_arg2)))
      (product (m ((c.tc : Thread nD τ).loc main_arg0)) (m ((c.tc : Thread nD τ).loc main_arg3)) (m ((c.tc : Thread nD τ).loc main_arg4))) := rfl

/-! ## The parts at an index -/

/-- The constant that the codes are less by is eight. -/
theorem ofBits_eight : Ideal.ofBits .bf16 0x4100#16 = ((8 : ℝ) : EReal) := by
  simp [Ideal.ofBits, Ideal.ieee]
  rw [← EReal.coe_mul]
  norm_num

/-- A low nibble less eight. -/
theorem low_apply (q : IVec S3584x4096 8) (i : S3584x4096.Idx) :
    (FloatOps.sitofp (F := Ideal) .bf16 (low q i) - Ideal.ofBits .bf16 0x4100#16 : EReal) = Column.low (q i) := by
  have h : (low q i).toInt = ((q i).toNat % 16 : ℕ) := by
    pointwise [low]
    generalize q i = b
    revert b
    decide +kernel
  rw [ofBits_eight]
  show (((low q i).toInt : ℝ) : EReal) - ((8 : ℝ) : EReal) = _
  rw [h, ← EReal.coe_sub]
  unfold Column.low
  push_cast
  rfl

/-- A high nibble less eight. -/
theorem high_apply (q : IVec S3584x4096 8) (i : S3584x4096.Idx) :
    (FloatOps.sitofp (F := Ideal) .bf16 (high q i) - Ideal.ofBits .bf16 0x4100#16 : EReal) = Column.high (q i) := by
  have h : (high q i).toInt = ((q i).toNat / 16 : ℕ) := by
    pointwise [high]
    generalize q i = b
    revert b
    decide +kernel
  rw [ofBits_eight]
  show (((high q i).toInt : ℝ) : EReal) - ((8 : ℝ) : EReal) = _
  rw [h, ← EReal.coe_sub]
  unfold Column.high
  push_cast
  rfl

/-- A half's weight at row `d` of column `n`. -/
theorem weights_apply (q : IVec S3584x4096 32) (s : FVec Ideal S28x4096 .bf16) (d : Fin 3584) (n : Fin 4096) :
    weights q s (ix2 d n) = (FloatOps.sitofp (F := Ideal) .bf16 (q (ix2 d n)) - Ideal.ofBits .bf16 0x4100#16 : EReal) * s (ix2 ⟨d.val / 128, by omega⟩ n) := by
  pointwise [weights]

/-- The product at row `r` of column `n` is the column product. -/
theorem product_apply (x : FVec Ideal S128x1x7168 .bf16) (q : IVec S3584x4096 8) (s : FVec Ideal S56x4096 .bf16) (r : Fin 128) (n : Fin 4096) :
    product x q s (ix3 r 0 n) = Column.product (fun d => x (ix3 r 0 d)) (fun d => q (ix2 d n)) (fun g => s (ix2 g n)) := by
  unfold Column.product
  pointwise [product]
  simp only [weights_apply, low_apply, high_apply]
  pointwise

/-- The result at row `r` of column `n`. -/
theorem res_apply (m : (ℓ : Loc nD τ sig) → Buf (Elt Ideal) ℓ) (c : Dev nD) (r : Fin 128) (n : Fin 4096) :
    Value.res_out0 m c (ix2 r n) = Column.gated
      (product (F := Ideal) (m ((c.tc : Thread nD τ).loc main_arg0)) (m ((c.tc : Thread nD τ).loc main_arg1)) (m ((c.tc : Thread nD τ).loc main_arg2)) (ix3 r 0 n))
      (product (F := Ideal) (m ((c.tc : Thread nD τ).loc main_arg0)) (m ((c.tc : Thread nD τ).loc main_arg3)) (m ((c.tc : Thread nD τ).loc main_arg4)) (ix3 r 0 n)) := by
  rw [res_eq]
  generalize product (F := Ideal) _ (m ((c.tc : Thread nD τ).loc main_arg1)) _ = g
  generalize product (F := Ideal) _ (m ((c.tc : Thread nD τ).loc main_arg3)) _ = u
  pointwise [finish]
  rfl

end Cert.ReferenceIdeal.Read
-- ==== Proof.Equation.lean ====
/- The equation: from equal arguments the reference's result is the kernel's. -/
module

public import proofs.«01_k».proof.Proof.Array
public import proofs.«01_k».proof.Proof.Reference

@[expose] public section

set_option maxRecDepth 16384

noncomputable section

namespace Cert.Equation

open Idealize.ShloMosaic Idealize.ShloMosaic.TcCoe Idealize.SL.Sem

/-- The two results are equal where the arguments are. -/
theorem result_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3))
    (h4 : m' ((c : Thread ReferenceIdeal.nD ReferenceIdeal.τ).loc ReferenceIdeal.main_arg4) = m ((c : Thread KernelIdeal.nD KernelIdeal.τ).loc KernelIdeal.main_arg4)) :
    ReferenceIdeal.Value.res_out0 (F := Ideal) m' c = KernelIdeal.Body.result m c := by
  have h (r : Fin 128) (n : Fin 4096) : ReferenceIdeal.Value.res_out0 (F := Ideal) m' c (ix2 r n) = KernelIdeal.Body.result m c (ix2 r n) := by
    rw [ReferenceIdeal.Read.res_apply, ReferenceIdeal.Read.product_apply, ReferenceIdeal.Read.product_apply, h0, h1, h2, h3, h4]
    rfl
  funext i
  have hi : i = (ix2 (i 0 : Fin 128) (i 1 : Fin 4096) : ReferenceIdeal.S128x4096.Idx) := eq_ix2 i
  rw [hi]
  exact h _ _

end Cert.Equation
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Equation
public import Idealize.ShloMosaic.Lib.Claim
public import Idealize.ShloMosaic.Lib.Bf16Pair
public import Idealize.ShloMosaic.Adequacy
public import Idealize.ShloMosaic.Init

@[expose] public section

set_option maxRecDepth 16384

noncomputable section

namespace Cert.Proof

open Idealize.ShloMosaic Idealize.SL.Sem

/-- The idealization's rewritten sites: one rule proof per distinct statement. -/
theorem preserves : Cert.preserves_Kernel_KernelIdeal :=
  ⟨IdealRules.bf16_pair.statement _ _, IdealRules.bf16_pack.statement _, IdealRules.bf16_pair.statement _ _,
    IdealRules.bf16_pair.statement _ _⟩

/-- The reference runs, leaves its arguments as they were, and ends quiescent. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals both programs end with the same result. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Body.result m c, ?_, ?_⟩
  · exact (θ_run Cert.KernelIdeal.defs _ _).mono
      (fun r h c => ⟨(h c).1.trans (Cert.KernelIdeal.Body.arr_eq m c), (h c).2⟩) (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2, h3, h4⟩ := hargs c
    exact Cert.Equation.result_eq m m' c h0 h1 h2 h3 h4

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference,
    preserves, algebraic⟩

end Cert.Proof

end
